-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Reference (m : (ℓ : Loc Cert.Reference.nD Cert.Reference.τ Cert.Reference.sig) → Buf (Elt Bits) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v4) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReference : Cert.Reference.Facts) (hReferenceIdeal : Cert.ReferenceIdeal.Facts),
    quiescent_Kernel (hKernel := hKernel)
    ∧ quiescent_KernelIdeal (hKernelIdeal := hKernelIdeal)
    ∧ quiescent_Reference (hReference := hReference)
    ∧ quiescent_ReferenceIdeal (hReferenceIdeal := hReferenceIdeal)
    ∧ preserves_Kernel_KernelIdeal
    ∧ bitexact_Kernel_Reference (hKernel := hKernel) (hReference := hReference)
    ∧ algebraic_KernelIdeal_ReferenceIdeal (hKernelIdeal := hKernelIdeal) (hReferenceIdeal := hReferenceIdeal)
-- ==== Kernel.lean ====
abbrev S4x4096x2048 : Shape := ⟨3, ![4, 4096, 2048]⟩
abbrev S8192x2048 : Shape := ⟨2, ![8192, 2048]⟩
abbrev S1x1024x2048 : Shape := ⟨3, ![1, 1024, 2048]⟩
abbrev S1024x2048 : Shape := ⟨2, ![1024, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4x4096x2048, .f32⟩
  | .hbm, ⟨1, _⟩ => ⟨S8192x2048, .f32⟩
  | .hbm, ⟨2, _⟩ => ⟨S4x4096x2048, .f32⟩
  | .local _ .vmem, ⟨0, _⟩ => ⟨S1x1024x2048, .f32⟩
  | .local _ .vmem, ⟨1, _⟩ => ⟨S1x1024x2048, .f32⟩
  | .local _ .vmem, ⟨2, _⟩ => ⟨S1024x2048, .f32⟩
  | .local _ .vmem, ⟨3, _⟩ => ⟨S1024x2048, .f32⟩
  | .local _ .vmem, ⟨4, _⟩ => ⟨S1x1024x2048, .f32⟩
  | .local _ .vmem, ⟨5, _⟩ => ⟨S1x1024x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference.lean ====
abbrev S4x4096x2048 : Shape := ⟨3, ![4, 4096, 2048]⟩
abbrev S8192x2048 : Shape := ⟨2, ![8192, 2048]⟩
abbrev S4096 : Shape := ⟨1, ![4096]⟩
abbrev S1x4096 : Shape := ⟨2, ![1, 4096]⟩
abbrev S_ : Shape := ⟨0, ![]⟩
abbrev S1x4096x1 : Shape := ⟨3, ![1, 4096, 1]⟩
abbrev S1 : Shape := ⟨1, ![1]⟩
abbrev S1x1x1 : Shape := ⟨3, ![1, 1, 1]⟩
abbrev S1x4096x2048 : Shape := ⟨3, ![1, 4096, 2048]⟩

abbrev nBuf : Space → Nat
  | .hbm => 29
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S8192x2048, .f32⟩
  | .hbm, ⟨2, _⟩ => ⟨S4096, .i32⟩
  | .hbm, ⟨3, _⟩ => ⟨S1x4096, .i32⟩
  | .hbm, ⟨4, _⟩ => ⟨S_, .i32⟩
  | .hbm, ⟨5, _⟩ => ⟨S1x4096, .i32⟩
  | .hbm, ⟨6, _⟩ => ⟨S1x4096, .i1⟩
  | .hbm, ⟨7, _⟩ => ⟨S_, .i32⟩
  | .hbm, ⟨8, _⟩ => ⟨S1x4096, .i32⟩
  | .hbm, ⟨9, _⟩ => ⟨S1x4096, .i32⟩
  | .hbm, ⟨10, _⟩ => ⟨S1x4096, .i32⟩
  | .hbm, ⟨11, _⟩ => ⟨S1x4096x1, .i32⟩
  | .hbm, ⟨12, _⟩ => ⟨S1, .i32⟩
  | .hbm, ⟨13, _⟩ => ⟨S_, .i32⟩
  | .hbm, ⟨14, _⟩ => ⟨S1x4096x1, .i32⟩
  | .hbm, ⟨15, _⟩ => ⟨S1x4096x1, .i1⟩
  | .hbm, ⟨16, _⟩ => ⟨S1x1x1, .i32⟩
  | .hbm, ⟨17, _⟩ => ⟨S1x4096x1, .i32⟩
  | .hbm, ⟨18, _⟩ => ⟨S1x4096x1, .i1⟩
  | .hbm, ⟨19, _⟩ => ⟨S1x4096x1, .i1⟩
  | .hbm, ⟨20, _⟩ => ⟨S_, .i1⟩
  | .hbm, ⟨21, _⟩ => ⟨S1x4096, .i1⟩
  | .hbm, ⟨22, _⟩ => ⟨S1x4096x2048, .f32⟩
  | .hbm, ⟨23, _⟩ => ⟨S1x4096x2048, .i1⟩
  | .hbm, ⟨24, _⟩ => ⟨S_, .f32⟩
  | .hbm, ⟨25, _⟩ => ⟨S1x4096x2048, .f32⟩
  | .hbm, ⟨26, _⟩ => ⟨S1x4096x2048, .f32⟩
  | .hbm, ⟨27, _⟩ => ⟨S4x4096x2048, .f32⟩
  | .hbm, ⟨28, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩

abbrev nD : Nat := 1
abbrev τ : Topo := Topo.v7x

variable {F : FTy → Type} [FloatOps F]
-- ==== Proof.Spec.lean ====
/-
  WHAT THE PROBLEM ASKS FOR, as one function of the two arguments: the positional embedding of position `s` is row `s`
  of the table, and it is added to position `s` of every sequence of the batch. Both programs are shown to compute it.
-/
module

public import Idealize.ShloMosaic.PureOps
public import Idealize.ShloMosaic.Lib.ValueIdxCore

@[expose] public section

noncomputable section

namespace Cert.Embed

open Idealize.ShloMosaic Idealize.ShloMosaic.ValueIdx

/-- A batch of sequences: `[4, 4096, 2048]`. -/
abbrev SeqS : Shape := ⟨3, ![4, 4096, 2048]⟩
/-- The embedding table: `[8192, 2048]`. -/
abbrev TabS : Shape := ⟨2, ![8192, 2048]⟩

/-- The table entry that is added at index `i = (b, s, d)`: row `s`, column `d`. The batch coordinate does not matter,
    and `s < 4096` stays inside the table's 8192 rows. -/
abbrev tabIdx (i : SeqS.Idx) : TabS.Idx :=
  ix2 ⟨(i 1).val, Nat.lt_trans (i 1).isLt (by show 4096 < 8192; decide)⟩ ⟨(i 2).val, (i 2).isLt⟩

variable {F : FTy → Type} [FloatOps F]

/-- `embedded x table` at `(b, s, d)` is `x[b, s, d] + table[s, d]`. -/
def embedded (x : SeqS.Idx → F .f32) (table : TabS.Idx → F .f32) : SeqS.Idx → F .f32 :=
  fun i => FloatOps.addf (x i) (table (tabIdx i))

end Cert.Embed

end
-- ==== Proof.KernelIdealValue.lean ====
/-
  WHAT THE IDEALIZED KERNEL COMPUTES: the same facts as for the kernel (KernelValue.lean), about the program whose floats
  are read as extended reals. Grid point `(s, b)` (numbered `4 * s + b`) adds rows `1024 * s` to `1024 * s + 1023` of the
  table to the same rows of sequence `b`. So every point writes its block of `embedded x table`, the sixteen blocks tile
  the result, and the result is `embedded x table`. All of this holds for any float operations.
-/
module

public import proofs.«01_k».proof.Proof.Spec
public import proofs.«01_k».proof.Proof.Gen.KernelIdeal.Value

@[expose] public section

noncomputable section

namespace Cert.KernelIdeal.Whole

open Cert.KernelIdeal Cert.KernelIdeal.Gen Cert.Embed Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- What the result array is shown to hold on device `c`: `embedded` of its two argument arrays. -/
abbrev goal (c : Dev nD) : Buf (Elt F) ((c : Thread nD τ).loc main_v0) :=
  embedded (m ((c : Thread nD τ).loc main_arg0)) (m ((c : Thread nD τ).loc main_arg1))

/-- The offsets of the body's loads and of its store are all zero. -/
theorem zero3 : (![0, 0, 0] : Fin 3 → Nat) = fun _ => 0 := funext fun a => by fin_cases a <;> rfl
theorem zero2 : (![0, 0] : Fin 2 → Nat) = fun _ => 0 := funext fun a => by fin_cases a <;> rfl

/-- Which blocks point `t = 4 * s + b` works on: block `(b, s, 0)` of the batch and of the result, block `(s, 0)` of the
    table. -/
theorem blocks_at : ∀ t : Fin cfg0.N,
    (win0_0.index t 0 = t.val % 4 ∧ win0_0.index t 1 = t.val / 4 ∧ win0_0.index t 2 = 0)
    ∧ (win0_1.index t 0 = t.val / 4 ∧ win0_1.index t 1 = 0)
    ∧ (win0_2.index t 0 = t.val % 4 ∧ win0_2.index t 1 = t.val / 4 ∧ win0_2.index t 2 = 0) :=
  (by decide +kernel : ∀ t : Fin grid0.N, _)

/-- Point `t` writes back its block of `embedded x table`. -/
theorem flushed_eq (c : Dev nD) (t : Fin cfg0.N) :
    (dats m 0 c).flushed 2 t = (win0_2.blk t).view.read (Elt F) (goal m c) := by
  obtain ⟨⟨x0, x1, x2⟩, ⟨p0, p1⟩, ⟨o0, o1, o2⟩⟩ := blocks_at t
  rw [Value.flushed2]
  funext y
  show out0_2 (iblk m c 0 t) (iblk m c 1 t) y = goal m c ((win0_2.rect t).emb y)
  unfold out0_2
  rw [Value.canon2_eq, View.ld_unit_zero zero3, View.ld_unit_zero zero2]
  have hy : (y 0).val < 1 := (y 0).isLt
  have e0 := win0_2.rect_emb_val t y 0
  have e1 := win0_2.rect_emb_val t y 1
  have e2 := win0_2.rect_emb_val t y 2
  rw [o0] at e0
  rw [o1] at e1
  rw [o2] at e2
  -- the batch's block and the result's block lie at the same place
  have hx : (win0_0.rect t).emb (Value.ix2_0 y) = (win0_2.rect t).emb y := by
    refine funext fun a => Fin.ext ?_
    match a with
    | ⟨0, _⟩ =>
      refine (win0_0.rect_emb_val t _ 0).trans (Eq.trans ?_ e0.symm)
      rw [x0]; show _ * 1 + 0 = _ * 1 + (y 0).val; omega
    | ⟨1, _⟩ =>
      refine (win0_0.rect_emb_val t _ 1).trans (Eq.trans ?_ e1.symm)
      rw [x1]; rfl
    | ⟨2, _⟩ =>
      refine (win0_0.rect_emb_val t _ 2).trans (Eq.trans ?_ e2.symm)
      rw [x2]; rfl
  -- the table's block holds the rows that belong there
  have ht : (win0_1.rect t).emb (Value.ix2_1 y) = tabIdx ((win0_2.rect t).emb y) := by
    refine funext fun a => Fin.ext ?_
    match a with
    | ⟨0, _⟩ =>
      refine (win0_1.rect_emb_val t _ 0).trans (Eq.trans ?_ e1.symm)
      rw [p0]; rfl
    | ⟨1, _⟩ =>
      refine (win0_1.rect_emb_val t _ 1).trans (Eq.trans ?_ e2.symm)
      rw [p1]; rfl
  show FloatOps.addf (m ((c : Thread nD τ).loc main_arg0) ((win0_0.rect t).emb (Value.ix2_0 y)))
      (m ((c : Thread nD τ).loc main_arg1) ((win0_1.rect t).emb (Value.ix2_1 y))) = goal m c ((win0_2.rect t).emb y)
  rw [hx, ht]
  rfl

/-- Every index `(b, s, d)` of the result lies in the block of a point, namely of `4 * (s / 1024) + b`. -/
theorem cover (i : S4x4096x2048.Idx) :
    ∃ t : Fin cfg0.N, (cfg0.win 2).flush t = true ∧ i ∈ ((cfg0.win 2).blk t).view.set := by
  have h0 : (i 0).val < 4 := (i 0).isLt
  have h1 : (i 1).val < 4096 := (i 1).isLt
  have h2 : (i 2).val < 2048 := (i 2).isLt
  have hN : cfg0.N = 16 := N_0
  have ht : 4 * ((i 1).val / 1024) + (i 0).val < cfg0.N := by omega
  refine ⟨⟨4 * ((i 1).val / 1024) + (i 0).val, ht⟩, flush0_2 _, ?_⟩
  obtain ⟨-, -, ⟨o0, o1, o2⟩⟩ := blocks_at ⟨4 * ((i 1).val / 1024) + (i 0).val, ht⟩
  show i ∈ ((View.whole main_v0).slice (win0_2.rect ⟨4 * ((i 1).val / 1024) + (i 0).val, ht⟩)).set
  rw [View.set_slice_whole, Rect.mem_set_unit]
  intro a
  match a with
  | ⟨0, _⟩ =>
    show win0_2.index _ 0 * 1 ≤ (i 0).val ∧ (i 0).val < win0_2.index _ 0 * 1 + 1
    rw [o0]; dsimp only; omega
  | ⟨1, _⟩ =>
    show win0_2.index _ 1 * 1024 ≤ (i 1).val ∧ (i 1).val < win0_2.index _ 1 * 1024 + 1024
    rw [o1]; dsimp only; omega
  | ⟨2, _⟩ =>
    show win0_2.index _ 2 * 2048 ≤ (i 2).val ∧ (i 2).val < win0_2.index _ 2 * 2048 + 2048
    rw [o2]; omega

/-- So the result array ends holding `embedded x table`. -/
theorem final_eq (c : Dev nD) : (dats m 0 c).arrAt 2 cfg0.N = goal m c :=
  (dats m 0 c).arrAt_eq_of_cover 2 (goal m c) (fun t _ => flushed_eq m c t) cover

/-- Every run ends with the result at `embedded x table` and the arguments unchanged. -/
theorem run : θ_run defs (onTc (τ := τ) (main (F := F))) ⟨m, fun _ => 0, ρ⟩ fun r => ∀ c : Dev nD,
      r.2.mem ((c : Thread nD τ).loc main_v0) = goal m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final_eq m c), (h c).2⟩) (Value.run_blocks m ρ)

end Cert.KernelIdeal.Whole

end
-- ==== Proof.Take.lean ====
/-
  LOOKING UP WHOLE ROWS: `jnp.take(table, pos, axis=0)` of a rank-2 table at a rank-2 array of row numbers is a
  `stablehlo.gather` whose slices are single rows. Here it is read at an index, for any sizes, when the row number found
  there lies inside the table (so that the clamping of start indices does nothing).
-/
module

public import Idealize.ShloMosaic.PureOps
public import Idealize.ShloMosaic.Lib.ValueIdxCore

@[expose] public section

noncomputable section

namespace Cert.Embed

open Idealize.ShloMosaic Idealize.ShloMosaic.ValueIdx

/-- The dimension numbers of a lookup of whole rows: a table `[N, D]`, row numbers `[R, C, 1]`, result `[R, C, D]`. -/
abbrev rowDims (N D R C : Nat)
    (wf : GatherDims.WF ⟨2, ![N, D]⟩ ⟨3, ![R, C, 1]⟩ ⟨3, ![R, C, D]⟩ [2] [0] [] [0] [] 2 ![1, D]) :
    GatherDims ⟨2, ![N, D]⟩ ⟨3, ![R, C, 1]⟩ ⟨3, ![R, C, D]⟩ where
  offsetDims := [2]
  collapsedSliceDims := [0]
  operandBatchingDims := []
  startIndicesBatchingDims := []
  startIndexMap := [0]
  indexVectorDim := 2
  sliceSizes := ![1, D]
  wf := wf

/-- Where result index `(r, c, d)` finds its row number: at `(r, c, 0)`. -/
abbrev rowIdx {R C D : Nat} (y : (⟨3, ![R, C, D]⟩ : Shape).Idx) : (⟨3, ![R, C, 1]⟩ : Shape).Idx :=
  fun a => match a with
    | ⟨0, _⟩ => ⟨(y 0).val, (y 0).isLt⟩
    | ⟨1, _⟩ => ⟨(y 1).val, (y 1).isLt⟩
    | ⟨2, _⟩ => ⟨0, Nat.one_pos⟩

section Read
variable {N D R C w : Nat}
  (wf : GatherDims.WF ⟨2, ![N, D]⟩ ⟨3, ![R, C, 1]⟩ ⟨3, ![R, C, D]⟩ [2] [0] [] [0] [] 2 ![1, D])
  (idx : IVec ⟨3, ![R, C, 1]⟩ w) (y : (⟨3, ![R, C, D]⟩ : Shape).Idx)

/-- The column axis is neither a collapsed axis nor one that the row numbers name. -/
theorem column_not_mem : (1 : Fin 2) ∉ [(0 : Fin 2)] := by decide

/-- On the row axis the lookup starts at the row number, if that is a row of the table. -/
theorem start_row (k : Fin N) (hk : (idx (rowIdx y)).toInt = (k.val : Int)) :
    (rowDims N D R C wf).start y idx (0 : Fin 2) = k.val := by
  have hlt := k.isLt
  have hmem : (0 : Fin 2) ∈ (rowDims N D R C wf).startIndexMap := List.mem_singleton.mpr rfl
  have hat : (rowDims N D R C wf).siIdx y ⟨List.idxOf (0 : Fin 2) (rowDims N D R C wf).startIndexMap,
      List.idxOf_lt_length_iff.2 hmem⟩ = rowIdx y :=
    funext fun b => Fin.ext (match b with | ⟨0, _⟩ => rfl | ⟨1, _⟩ => rfl | ⟨2, _⟩ => rfl)
  unfold GatherDims.start
  rw [dif_pos hmem, hat, hk, Int.toNat_natCast]
  show min k.val (N - 1) = k.val
  omega

/-- On the row axis, which is collapsed, there is no offset. -/
theorem offset_row : (rowDims N D R C wf).offCoord y (0 : Fin 2) = 0 :=
  GatherDims.offCoord_eq_zero _ _ _ fun h => ((GatherDims.mem_sKept _ _).mp h).1 (List.mem_singleton.mpr rfl)

/-- On the column axis the lookup starts at the first column, -/
theorem start_column : (rowDims N D R C wf).start y idx (1 : Fin 2) = 0 := by
  unfold GatherDims.start
  exact dif_neg column_not_mem

/-- and the offset is the result's own last coordinate. -/
theorem offset_column : (rowDims N D R C wf).offCoord y (1 : Fin 2) = (y 2).val := by
  unfold GatherDims.offCoord
  rw [dif_pos ((GatherDims.mem_sKept _ _).mpr ⟨column_not_mem, List.not_mem_nil⟩)]
  rfl

/-- The lookup at `(r, c, d)` is entry `(k, d)` of the table, where `k` is the row number at `(r, c)`, if that is a row
    of the table. -/
theorem gather_row_of_lt {α : Type} (x : (⟨2, ![N, D]⟩ : Shape).Idx → α)
    (k : Fin N) (hk : (idx (rowIdx y)).toInt = (k.val : Int)) :
    Host.gather (rowDims N D R C wf) x idx y = x (ix2 k ⟨(y 2).val, (y 2).isLt⟩) := by
  have hb (a : Fin 2) : (rowDims N D R C wf).batchCoord y a = 0 :=
    GatherDims.batchCoord_eq_zero _ _ _ List.not_mem_nil
  have h0 : (rowDims N D R C wf).start y idx (0 : Fin 2) + (rowDims N D R C wf).batchCoord y (0 : Fin 2)
      + (rowDims N D R C wf).offCoord y (0 : Fin 2) = k.val := by
    rw [start_row wf idx y k hk, hb, offset_row]; rfl
  have h1 : (rowDims N D R C wf).start y idx (1 : Fin 2) + (rowDims N D R C wf).batchCoord y (1 : Fin 2)
      + (rowDims N D R C wf).offCoord y (1 : Fin 2) = (y 2).val := by
    rw [start_column, hb, offset_column, Nat.zero_add]
  unfold Host.gather
  exact congrArg x (funext fun a => Fin.ext (match a with | ⟨0, _⟩ => h0 | ⟨1, _⟩ => h1))

end Read

end Cert.Embed

end
-- ==== Proof.Host.lean ====
/-
  WHAT THE REFERENCE COMPUTES, as an equation between arrays: jax's `take` at the positions 0, 1, …, 4095 — wrap
  negative row numbers, look the rows up, and put NaN where a row number is out of range — is plain row lookup, because
  every position is a row number of the table; added to the batch it is `embedded`.
-/
module

public import proofs.«01_k».proof.Proof.Spec
public import proofs.«01_k».proof.Proof.Take
public import Idealize.ShloMosaic.Lib.Pipeline.Value
public import Idealize.ShloMosaic.Lib.ReduceAll

@[expose] public section

noncomputable section

namespace Cert.Embed

open Idealize.ShloMosaic Idealize.ShloMosaic.ValueIdx

/-- Scalars, positions `[4096]`, the batch of positions `[1, 4096]`, the row numbers as start indices `[1, 4096, 1]`,
    and the rows found `[1, 4096, 2048]`. -/
abbrev ScS : Shape := ⟨0, ![]⟩
abbrev PosS : Shape := ⟨1, ![4096]⟩
abbrev RowS : Shape := ⟨2, ![1, 4096]⟩
abbrev StartS : Shape := ⟨3, ![1, 4096, 1]⟩
abbrev FoundS : Shape := ⟨3, ![1, 4096, 2048]⟩

/-! ## Words that hold a position -/

/-- A position read as a signed number is itself. -/
theorem toInt_pos {n : Nat} (h : n < 4096) : (BitVec.ofNat 32 n).toInt = (n : Int) := by
  have e : (BitVec.ofNat 32 n).toNat = n := by rw [BitVec.toNat_ofNat]; omega
  rw [BitVec.toInt_eq_toNat_of_lt (by omega), e]

/-- A position is not negative: jax's wrapping of negative row numbers does nothing to it. -/
theorem not_neg {n : Nat} (h : n < 4096) : IntOp.cmpi .slt (BitVec.ofNat 32 n) 0#32 ≠ 1#1 := by
  rw [ne_eq, IntOp.cmpi_slt, toInt_pos h, show (0#32).toInt = 0 from rfl]; omega

/-- A position is a row of the table: it passes jax's test for a row number in range. -/
theorem in_range {n : Nat} (h : n < 4096) :
    IntOp.andi (IntOp.cmpi .sge (BitVec.ofNat 32 n) 0#32) (IntOp.cmpi .sle (BitVec.ofNat 32 n) 8191#32) = 1#1 := by
  rw [IntOp.andi_eq_one, IntOp.cmpi_sge, IntOp.cmpi_sle, toInt_pos h, show (0#32).toInt = 0 from rfl,
    show (8191#32).toInt = 8191 from rfl]
  omega

/-! ## The row numbers -/

section Rows
variable (hp : PosS.BroadcastsInDim RowS ![1]) (hz : ScS.BroadcastsInDim RowS ![])
  (hs : RowS.BroadcastsInDim StartS ![0, 1])

/-- The row numbers as jax's `take` prepares them: the positions, those below 0 moved up by the number of rows. -/
abbrev rows : IVec StartS 32 :=
  broadcastInDim StartS ![0, 1] hs
    (select (cmpi .slt (broadcastInDim RowS ![1] hp (iotaInDim PosS 32 0)) (broadcastInDim RowS ![] hz (constantI ScS 32 0#32)))
      (addi (broadcastInDim RowS ![1] hp (iotaInDim PosS 32 0)) (broadcastInDim RowS ![] hz (constantI ScS 32 8192#32)))
      (broadcastInDim RowS ![1] hp (iotaInDim PosS 32 0)))

/-- The row number for position `s` is `s`. -/
theorem rows_apply (y : StartS.Idx) : rows hp hz hs y = BitVec.ofNat 32 (y 1).val := by
  have hpos (j : RowS.Idx) : broadcastInDim RowS ![1] hp (iotaInDim PosS 32 0) j = BitVec.ofNat 32 (j 1).val := rfl
  refine (broadcastInDim_apply _ hs _ y (ix2 ⟨0, Nat.one_pos⟩ ⟨(y 1).val, (y 1).isLt⟩ : RowS.Idx)
    (fun a => match a with | ⟨0, _⟩ => rfl | ⟨1, _⟩ => rfl)).trans ?_
  show Scalar.select (IntOp.cmpi .slt (broadcastInDim RowS ![1] hp (iotaInDim PosS 32 0) _) 0#32) _ _ = _
  rw [hpos]
  exact if_neg (not_neg (y 1).isLt)

end Rows

/-! ## The reference's array -/

section Array
variable {F : FTy → Type} [FloatOps F]
variable (hp : PosS.BroadcastsInDim RowS ![1]) (hz : ScS.BroadcastsInDim RowS ![])
  (hs : RowS.BroadcastsInDim StartS ![0, 1]) (hz' : ScS.BroadcastsInDim StartS ![])
  (h1 : (⟨1, ![1]⟩ : Shape).BroadcastsInDim ⟨3, ![1, 1, 1]⟩ ![2])
  (h2 : (⟨3, ![1, 1, 1]⟩ : Shape).BroadcastsInDim StartS ![0, 1, 2])
  (hr : StartS.ReducesTo [2] RowS) (hn : 0 < ScS.numel)
  (hm : RowS.BroadcastsInDim FoundS ![0, 1]) (hf : ScS.BroadcastsInDim FoundS ![])
  (ho : FoundS.BroadcastsInDim SeqS ![0, 1, 2])
  (wf : GatherDims.WF TabS StartS FoundS [2] [0] [] [0] [] 2 ![1, 2048])

/-- Every row number is in range, so the mask that jax's `take` keeps rows by is set everywhere. -/
theorem mask_apply (j : RowS.Idx) :
    Host.reduce IntOp.andi
      (andi (cmpi .sge (rows hp hz hs) (broadcastInDim StartS ![] hz' (constantI ScS 32 0#32)))
        (cmpi .sle (rows hp hz hs)
          (broadcastInDim StartS ![0, 1, 2] h2 (broadcastInDim ⟨3, ![1, 1, 1]⟩ ![2] h1 (constantI ⟨1, ![1]⟩ 32 8191#32)))))
      (constantI ScS 1 1#1) hr hn j = 1#1 := by
  refine Host.reduce_andi_one _ _ hr hn j rfl fun i => ?_
  show IntOp.andi (IntOp.cmpi .sge (rows hp hz hs i) 0#32) (IntOp.cmpi .sle (rows hp hz hs i) 8191#32) = 1#1
  rw [rows_apply]
  exact in_range (i 1).isLt

/-- The reference's result is `embedded`: at `(b, s, d)` the mask is set, the row looked up is row `s`, and its entry `d`
    is added to `x[b, s, d]`. -/
theorem host_eq (x : FVec F SeqS .f32) (table : FVec F TabS .f32) :
    addf x (broadcastInDim SeqS ![0, 1, 2] ho
      (select
        (broadcastInDim FoundS ![0, 1] hm
          (Host.reduce IntOp.andi
            (andi (cmpi .sge (rows hp hz hs) (broadcastInDim StartS ![] hz' (constantI ScS 32 0#32)))
              (cmpi .sle (rows hp hz hs)
                (broadcastInDim StartS ![0, 1, 2] h2 (broadcastInDim ⟨3, ![1, 1, 1]⟩ ![2] h1 (constantI ⟨1, ![1]⟩ 32 8191#32)))))
            (constantI ScS 1 1#1) hr hn))
        (Host.gather (rowDims 8192 2048 1 4096 wf) table (rows hp hz hs))
        (broadcastInDim FoundS ![] hf (constant ScS .f32 0x7FC00000#32))))
      = embedded x table := by
  funext i
  have hlt : (i 1).val < 4096 := (i 1).isLt
  refine congrArg (FloatOps.addf (x i)) ?_
  -- the row found for the batch's only row of positions
  let y : FoundS.Idx := fun a => match a with
    | ⟨0, _⟩ => ⟨0, Nat.one_pos⟩
    | ⟨1, _⟩ => ⟨(i 1).val, (i 1).isLt⟩
    | ⟨2, _⟩ => ⟨(i 2).val, (i 2).isLt⟩
  refine (broadcastInDim_apply _ ho _ i y (fun a => match a with | ⟨0, _⟩ => rfl | ⟨1, _⟩ => rfl | ⟨2, _⟩ => rfl)).trans ?_
  refine (if_pos ?_).trans ?_
  · exact mask_apply hp hz hs hz' h1 h2 hr hn _
  · refine gather_row_of_lt wf (rows hp hz hs) y table ⟨(i 1).val, by omega⟩ ?_
    rw [rows_apply]
    exact toInt_pos hlt

end Array

end Cert.Embed

end
-- ==== Proof.ReferenceIdealValue.lean ====
/-
  WHAT THE IDEALIZED REFERENCE COMPUTES: its run, read back as one term of host operations, is `embedded` of its arguments (Host.lean).
-/
module

public import proofs.«01_k».proof.Proof.Host
public import proofs.«01_k».proof.Proof.Gen.ReferenceIdeal.Run
public import Idealize.ShloMosaic.Lib.Quiescent

@[expose] public section

noncomputable section

namespace Cert.ReferenceIdeal.Whole

open Cert.ReferenceIdeal Cert.ReferenceIdeal.Gen Cert.Embed Idealize.ShloMosaic Idealize.ShloMosaic.TcCoe Idealize.SL.Sem

variable {F : FTy → Type} [FloatOps F]
variable (m : (ℓ : Loc nD τ sig) → Buf (Elt F) ℓ) (ρ : Dev nD → PrngReg)

/-- Every run ends with the result at `embedded x table` and the arguments unchanged. -/
theorem run : θ_run defs (onTc (τ := τ) (main (F := F))) ⟨m, fun _ => 0, ρ⟩ fun r => ∀ c : Dev nD,
      r.2.mem ((c : Thread nD τ).loc main_v4)
          = embedded (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans
      (host_eq bcast_S4096_S1x4096_1 bcast_S_S1x4096 bcast_S1x4096_S1x4096x1_0_1 bcast_S_S1x4096x1 bcast_S1_S1x1x1_2
        bcast_S1x1x1_S1x4096x1_0_1_2 reducesTo_S1x4096x1_S1x4096_d2 h_S_ bcast_S1x4096_S1x4096x2048_0_1
        bcast_S_S1x4096x2048 bcast_S1x4096x2048_S4x4096x2048_0_1_2
        gather_S8192x2048_S1x4096x1_S1x4096x2048_2_0_n_n_0_2_12048_wf _ _), (h c).2⟩)
    (Value.run m ρ)

/-- The frame: every run leaves the arguments unchanged; the program has no semaphore. -/
theorem frame : θ_run defs (onTc (τ := τ) (main (F := F))) ⟨m, fun _ => 0, ρ⟩ fun r => (∀ c : Dev nD,
      r.2.mem ((c : Thread nD τ).loc main_arg0) = m ((c : Thread nD τ).loc main_arg0)
      ∧ r.2.mem ((c : Thread nD τ).loc main_arg1) = m ((c : Thread nD τ).loc main_arg1))
      ∧ r.2.sem = fun _ => 0 :=
  (θ_run defs _ _).mono (fun r h => ⟨fun c => (h c).2, sem_eq_zero_of_no_sems (by decide) r.2⟩) (Value.run m ρ)

end Cert.ReferenceIdeal.Whole

end
-- ==== Proof.lean ====
/-
  The proof of every claim of the certificate. The frames of the two kernels are generated; those of the two references
  are read off their runs. The value claims hold because all four programs compute `Cert.Embed.embedded` of their
  arguments (Proof/Spec.lean), for any float operations: `x[b, s, d] + table[s, d]`.
-/
module

public import proofs.«01_k».proof.Defs
public import proofs.«01_k».proof.Proof.KernelValue
public import proofs.«01_k».proof.Proof.KernelIdealValue
public import proofs.«01_k».proof.Proof.ReferenceValue
public import proofs.«01_k».proof.Proof.ReferenceIdealValue

@[expose] public section

noncomputable section

namespace Cert.Proof

open Idealize.ShloMosaic Idealize.SL.Sem Cert.Embed

/-- The kernel and the reference end with the same words in their results, given the same arguments. -/
theorem bitexact : Cert.bitexact_Kernel_Reference := by
  intro m ρ m' ρ' _ hargs
  refine ⟨fun c => Cert.Kernel.Whole.goal m c, Cert.Kernel.Whole.run m ρ, ?_⟩
  refine (θ_run Cert.Reference.defs _ _).mono (fun _ h c => ⟨(h c).1.trans ?_, (h c).2⟩) (Cert.Reference.Whole.run m' ρ')
  exact congrArg₂ embedded (hargs c).1 (hargs c).2

/-- The kernel and the reference compute the same function over the extended reals. -/
theorem algebraic : Cert.algebraic_KernelIdeal_ReferenceIdeal := by
  intro m ρ m' ρ' _ hargs
  refine ⟨fun c => Cert.KernelIdeal.Whole.goal m c, Cert.KernelIdeal.Whole.run m ρ, ?_⟩
  refine (θ_run Cert.ReferenceIdeal.defs _ _).mono (fun _ h c => ⟨(h c).1.trans ?_, (h c).2⟩)
    (Cert.ReferenceIdeal.Whole.run m' ρ')
  exact congrArg₂ embedded (hargs c).1 (hargs c).2

theorem claim : Cert.Claim :=
  ⟨Cert.Kernel.Gen.facts, Cert.KernelIdeal.Gen.facts, Cert.Reference.Gen.facts, Cert.ReferenceIdeal.Gen.facts,
    fun m ρ _ => Cert.Kernel.Gen.frame m ρ,
    fun m ρ _ => Cert.KernelIdeal.Gen.frame m ρ,
    fun m ρ _ => Cert.Reference.Whole.frame m ρ,
    fun m ρ _ => Cert.ReferenceIdeal.Whole.frame m ρ,
    trivial, bitexact, algebraic⟩

end Cert.Proof

end
